-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x10000 : Shape := ⟨2, ![1, 10000]⟩
abbrev S1x128 : Shape := ⟨2, ![1, 128]⟩
abbrev S1x1 : Shape := ⟨2, ![1, 1]⟩
abbrev S256x1 : Shape := ⟨2, ![256, 1]⟩
abbrev S256x10000 : Shape := ⟨2, ![256, 10000]⟩
abbrev S256x128 : Shape := ⟨2, ![256, 128]⟩
abbrev S256 : Shape := ⟨1, ![256]⟩

abbrev nBuf : Space → Nat
  | .hbm => 14
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x10000, .i32⟩
  | .hbm, ⟨10, _⟩ => ⟨S1x128, .f32⟩
  | .hbm, ⟨11, _⟩ => ⟨S1x128, .f32⟩
  | .hbm, ⟨12, _⟩ => ⟨S1x1, .f32⟩
  | .hbm, ⟨13, _⟩ => ⟨S256x1, .f32⟩
  | .local _ .vmem, ⟨0, _⟩ => ⟨S1x10000, .i32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x1, .f32⟩
  | .local _ .vmem, ⟨7, _⟩ => ⟨S1x1, .f32⟩
  | .local _ .vmem, ⟨8, _⟩ => ⟨S256x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x10000 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S256 : Shape := ⟨1, ![256]⟩
abbrev S10000x1 : Shape := ⟨2, ![10000, 1]⟩
abbrev S256x128 : Shape := ⟨2, ![256, 128]⟩
abbrev S256x1 : Shape := ⟨2, ![256, 1]⟩
abbrev S1x128 : Shape := ⟨2, ![1, 128]⟩
abbrev S1x1 : Shape := ⟨2, ![1, 1]⟩

abbrev nBuf : Space → Nat
  | .hbm => 50
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S_, .f32⟩
  | .hbm, ⟨10, _⟩ => ⟨S10000, .f32⟩
  | .hbm, ⟨11, _⟩ => ⟨S_, .f32⟩
  | .hbm, ⟨12, _⟩ => ⟨S256, .f32⟩
  | .hbm, ⟨13, _⟩ => ⟨S10000x1, .i32⟩
  | .hbm, ⟨14, _⟩ => ⟨S256, .f32⟩
  | .hbm, ⟨15, _⟩ => ⟨S_, .f32⟩
  | .hbm, ⟨16, _⟩ => ⟨S256x128, .f32⟩
  | .hbm, ⟨17, _⟩ => ⟨S10000x1, .i32⟩
  | .hbm, ⟨18, _⟩ => ⟨S256x128, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256x1, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S1x128, .f32⟩
  | .hbm, ⟨27, _⟩ => ⟨S256x128, .f32⟩
  | .hbm, ⟨28, _⟩ => ⟨S256x128, .f32⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S1x128, .f32⟩
  | .hbm, ⟨34, _⟩ => ⟨S256x128, .f32⟩
  | .hbm, ⟨35, _⟩ => ⟨S256x128, .f32⟩
  | .hbm, ⟨36, _⟩ => ⟨S_, .f32⟩
  | .hbm, ⟨37, _⟩ => ⟨S256x128, .f32⟩
  | .hbm, ⟨38, _⟩ => ⟨S256x128, .f32⟩
  | .hbm, ⟨39, _⟩ => ⟨S256x1, .f32⟩
  | .hbm, ⟨40, _⟩ => ⟨S1x1, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256, .f32⟩
  | .hbm, ⟨45, _⟩ => ⟨S256, .i1⟩
  | .hbm, ⟨46, _⟩ => ⟨S256x1, .i1⟩
  | .hbm, ⟨47, _⟩ => ⟨S_, .f32⟩
  | .hbm, ⟨48, _⟩ => ⟨S256x1, .f32⟩
  | .hbm, ⟨49, _⟩ => ⟨S256x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_cst : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Proof.Readout.lean ====
/-
  The readout as arithmetic on the extended reals, with no array and no program in it.

  Row `n` of a matrix of features belongs to the graph its number `b n` names, the number read signed; a row whose number
  is no graph's (negative, or too large) belongs to none. A graph's features are the mean of its rows; two layers with a
  rectifier and one without take that mean to one number, which is given out as 0 for a graph that has no row.
-/
module

public import Idealize.ShloMosaic.PureOps.Ideal

@[expose] public section

noncomputable section

namespace Cert.Readout

open Idealize.ShloMosaic

/-- The number of rows of graph `g`. -/
def count {N G : Nat} (b : Fin N → BitVec 32) (g : Fin G) : EReal := ∑ n, if (b n).toInt = (g.val : Int) then 1 else 0

/-- Column `c` of the sum of the rows of graph `g`. -/
def total {N G C : Nat} (b : Fin N → BitVec 32) (h : Fin N → Fin C → EReal) (g : Fin G) (c : Fin C) : EReal :=
  ∑ n, if (b n).toInt = (g.val : Int) then h n c else 0

/-- Column `c` of the mean of the rows of graph `g`: the sum over the number of rows, or over 1 where there is none. -/
def mean {N G C : Nat} (b : Fin N → BitVec 32) (h : Fin N → Fin C → EReal) (g : Fin G) (c : Fin C) : EReal :=
  Ideal.div (total b h g c) (max (count b g) 1)

/-- One entry of a layer without a rectifier: a row times a column of the weights, plus the bias. -/
def affine {K C : Nat} (x : Fin K → EReal) (w : Fin K → Fin C → EReal) (d : Fin C → EReal) (c : Fin C) : EReal :=
  ∑ k, x k * w k c + d c

/-- One entry of a layer with a rectifier. -/
def layer {K C : Nat} (x : Fin K → EReal) (w : Fin K → Fin C → EReal) (d : Fin C → EReal) (c : Fin C) : EReal :=
  max (affine x w d c) 0

/-- The readout of graph `g`: three layers of the graph's mean where the graph has a row, 0 where it has none. -/
def readout {N G C D E O : Nat} (b : Fin N → BitVec 32) (h : Fin N → Fin C → EReal) (w1 : Fin C → Fin D → EReal) (d1 : Fin D → EReal)
    (w2 : Fin D → Fin E → EReal) (d2 : Fin E → EReal) (w3 : Fin E → Fin O → EReal) (d3 : Fin O → EReal) (g : Fin G) (o : Fin O) : EReal :=
  if 0 < count b g then affine (layer (layer (mean b h g) w1 d1) w2 d2) w3 d3 o else 0

end Cert.Readout

end
-- ==== Proof.Block.lean ====
/-
  What the kernel's one block computes, entry by entry: the readout of the blocks it has loaded.

  The kernel finds the rows of a graph by comparing each row's graph number, as a word, with the graph's own number, and
  sums by multiplying with the table of ones and zeros that makes. A graph's own number is below 256, so a word is equal to
  it exactly when the word read signed is that number.
-/
module

public import proofs.«01_k».proof.Proof.Gen.KernelIdeal.Value
public import proofs.«01_k».proof.Proof.Readout
public import Idealize.ShloMosaic.Lib.Pointwise

@[expose] public section

set_option maxRecDepth 16384

noncomputable section

namespace Cert.KernelIdeal.Block

open Cert.KernelIdeal Cert.KernelIdeal.Gen Cert.Readout Idealize.ShloMosaic

/-- A word is the word of a number below 256 exactly when, read signed, it is that number. -/
theorem eq_ofNat_iff (x : BitVec 32) (g : Fin 256) : x = BitVec.ofNat 32 g.val ↔ x.toInt = (g.val : Int) := by
  have hg := g.isLt
  have e : (BitVec.ofNat 32 g.val).toInt = (g.val : Int) := by
    rw [BitVec.toInt_ofNat', Int.bmod_def]; omega
  exact ⟨fun h => h ▸ e, fun h => BitVec.eq_of_toInt_eq (h.trans e.symm)⟩

/-- A word converted to a float is the extended real it is, read signed. -/
theorem sitofp_word (x : BitVec 32) : FloatOps.sitofp (F := Ideal) FTy.f32 x = ((x.toInt : ℝ) : EReal) := rfl

/-- The table's entry at a graph and a row: 1 where the row is the graph's, 0 where it is not. -/
theorem table_apply (b : Vec Ideal S1x10000 .i32) (g : Fin 256) (n : Fin 10000) :
    k0_pay2 b (ix2 g n) = if (b (ix2 0 n)).toInt = (g.val : Int) then 1 else 0 := by
  pointwise [k0_pay2]
  by_cases h : (b (ix2 0 n)).toInt = (g.val : Int)
  · rw [if_pos h, (eq_ofNat_iff _ g).2 h]
    simp [IntOp.cmpi, sitofp_word]
  · rw [if_neg h]
    have h' : (b (ix2 0 n) == BitVec.ofNat 32 g.val) = false := beq_eq_false_iff_ne.2 (mt (eq_ofNat_iff _ g).1 h)
    simp [IntOp.cmpi, h', sitofp_word]

/-- The sum of the table's row of a graph is the number of the graph's rows. -/
theorem count_apply (b : Vec Ideal S1x10000 .i32) (g : Fin 256) : k0_pay3 b (ix2 g 0) = count (fun n => b (ix2 0 n)) g := by
  pointwise [k0_pay3]
  exact Finset.sum_congr rfl fun n _ => table_apply b g n

/-- The table's row of a graph times a column of the features is the sum of that column over the graph's rows. -/
theorem total_apply (b : Vec Ideal S1x10000 .i32) (h : Vec Ideal S10000x128 .f32) (g : Fin 256) (c : Fin 128) :
    ∑ n, k0_pay2 b (ix2 g n) * h (ix2 n c) = total (fun n => b (ix2 0 n)) (fun n c => h (ix2 n c)) g c :=
  Finset.sum_congr rfl fun n _ => by rw [table_apply, ite_mul, one_mul, zero_mul]

/-- The block the kernel stores, at a graph: the readout of the blocks it loaded. -/
theorem block_apply (b : Vec Ideal S1x10000 .i32) (h : Vec Ideal S10000x128 .f32) (w1 : Vec Ideal S128x128 .f32) (d1 : Vec Ideal S1x128 .f32)
    (w2 : Vec Ideal S128x128 .f32) (d2 : Vec Ideal S1x128 .f32) (w3 : Vec Ideal S128x1 .f32) (d3 : Vec Ideal S1x1 .f32) (g : Fin 256) :
    k0_pay1 (k0_pay3 b) (k0_pay4 b h w1 d1 w2 d2 w3) (k0_pay5 d3) (ix2 g 0)
      = readout (fun n => b (ix2 0 n)) (fun n c => h (ix2 n c)) (fun k c => w1 (ix2 k c)) (fun c => d1 (ix2 0 c))
          (fun k c => w2 (ix2 k c)) (fun c => d2 (ix2 0 c)) (fun k c => w3 (ix2 k c)) (fun c => d3 (ix2 0 c)) g (0 : Fin 1) := by
  pointwise [k0_pay1, k0_pay4, k0_pay5]
  simp only [total_apply, count_apply]
  rfl

end Cert.KernelIdeal.Block

end
-- ==== Proof.Output.lean ====
/-
  What the kernel's result array holds: the readout of its arguments. The launch has one grid point, its blocks are the
  arrays entire, and the arrays it reads are the arguments or their reshapes to one row.
-/
module

public import proofs.«01_k».proof.Proof.Block
public import Idealize.ShloMosaic.Lib.Pipeline.ValueKit
public import Idealize.ShloMosaic.Lib.Claim

@[expose] public section

set_option maxRecDepth 16384

noncomputable section

namespace Cert.KernelIdeal.Output

open Cert.KernelIdeal Cert.KernelIdeal.Gen Cert.Readout Idealize.ShloMosaic Idealize.ShloMosaic.TcCoe Idealize.SL.Sem

variable (m : (ℓ : Loc nD τ sig) → Buf (Elt Ideal) ℓ)

/-- The readout of the kernel's arguments, as an array. -/
def value (c : Dev nD) : FVec Ideal S256x1 .f32 := fun j =>
  readout (fun n => m ((c : Thread nD τ).loc main_arg2) (ix1 n)) (fun n k => m ((c : Thread nD τ).loc main_arg0) (ix2 n k))
    (fun k q => m ((c : Thread nD τ).loc main_arg3) (ix2 k q)) (fun q => m ((c : Thread nD τ).loc main_arg4) (ix1 q))
    (fun k q => m ((c : Thread nD τ).loc main_arg5) (ix2 k q)) (fun q => m ((c : Thread nD τ).loc main_arg6) (ix1 q))
    (fun k q => m ((c : Thread nD τ).loc main_arg7) (ix2 k q)) (fun q => m ((c : Thread nD τ).loc main_arg8) (ix1 q)) (j 0) (0 : Fin 1)

/-- The launch's one grid point: every window's block starts at the array's origin. -/
theorem origin : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0])

/-- The block of graph numbers is the argument, as one row. -/
theorem read0 (c : Dev nD) (t : Fin cfg0.N) (n : Fin 10000) :
    (iblk m c 0 t : Vec Ideal S1x10000 .i32) (ix2 0 n) = m ((c : Thread nD τ).loc main_arg2) (ix1 n) := by
  obtain ⟨e0, e1, e2, e3, e4, e5, e6, e7, e8⟩ := origin t
  blk_simp [iblk]
  entry_read
  pointwise
  blk_ext [e0]

/-- The block of features is the argument. -/
theorem read1 (c : Dev nD) (t : Fin cfg0.N) (n : Fin 10000) (k : Fin 128) :
    (iblk m c 1 t : Vec Ideal S10000x128 .f32) (ix2 n k) = m ((c : Thread nD τ).loc main_arg0) (ix2 n k) := by
  obtain ⟨e0, e1, e2, e3, e4, e5, e6, e7, e8⟩ := origin t
  blk_ext [iblk, V, e1]

/-- The block of the first layer's weights is the argument. -/
theorem read2 (c : Dev nD) (t : Fin cfg0.N) (n : Fin 128) (k : Fin 128) :
    (iblk m c 2 t : Vec Ideal S128x128 .f32) (ix2 n k) = m ((c : Thread nD τ).loc main_arg3) (ix2 n k) := by
  obtain ⟨e0, e1, e2, e3, e4, e5, e6, e7, e8⟩ := origin t
  blk_ext [iblk, V, e2]

/-- The block of the first layer's bias is the argument, as one row. -/
theorem read3 (c : Dev nD) (t : Fin cfg0.N) (n : Fin 128) :
    (iblk m c 3 t : Vec Ideal S1x128 .f32) (ix2 0 n) = m ((c : Thread nD τ).loc main_arg4) (ix1 n) := by
  obtain ⟨e0, e1, e2, e3, e4, e5, e6, e7, e8⟩ := origin t
  blk_simp [iblk]
  entry_read
  pointwise
  blk_ext [e3]

/-- The block of the second layer's weights is the argument. -/
theorem read4 (c : Dev nD) (t : Fin cfg0.N) (n : Fin 128) (k : Fin 128) :
    (iblk m c 4 t : Vec Ideal S128x128 .f32) (ix2 n k) = m ((c : Thread nD τ).loc main_arg5) (ix2 n k) := by
  obtain ⟨e0, e1, e2, e3, e4, e5, e6, e7, e8⟩ := origin t
  blk_ext [iblk, V, e4]

/-- The block of the second layer's bias is the argument, as one row. -/
theorem read5 (c : Dev nD) (t : Fin cfg0.N) (n : Fin 128) :
    (iblk m c 5 t : Vec Ideal S1x128 .f32) (ix2 0 n) = m ((c : Thread nD τ).loc main_arg6) (ix1 n) := by
  obtain ⟨e0, e1, e2, e3, e4, e5, e6, e7, e8⟩ := origin t
  blk_simp [iblk]
  entry_read
  pointwise
  blk_ext [e5]

/-- The block of the last layer's weights is the argument. -/
theorem read6 (c : Dev nD) (t : Fin cfg0.N) (n : Fin 128) (k : Fin 1) :
    (iblk m c 6 t : Vec Ideal S128x1 .f32) (ix2 n k) = m ((c : Thread nD τ).loc main_arg7) (ix2 n k) := by
  obtain ⟨e0, e1, e2, e3, e4, e5, e6, e7, e8⟩ := origin t
  blk_ext [iblk, V, e6]

/-- The block of the last layer's bias is the argument, as one row. -/
theorem read7 (c : Dev nD) (t : Fin cfg0.N) (n : Fin 1) :
    (iblk m c 7 t : Vec Ideal S1x1 .f32) (ix2 0 n) = m ((c : Thread nD τ).loc main_arg8) (ix1 n) := by
  obtain ⟨e0, e1, e2, e3, e4, e5, e6, e7, e8⟩ := origin t
  blk_simp [iblk]
  entry_read
  pointwise
  blk_ext [e7]

/-- After the run the kernel's result array is the readout of its arguments. -/
theorem final (c : Dev nD) : (dats m 0 c).arrAt 8 cfg0.N = value m c := by
  refine (dats m 0 c).arrAt_eq_of_covers 8 _ (by decide +kernel) fun t hf y => ?_
  obtain ⟨e0, e1, e2, e3, e4, e5, e6, e7, e8⟩ := origin t
  blk_simp
  rw [after0_8]
  unfold out0_8
  frame_out
  obtain ⟨g, rfl⟩ : ∃ g : Fin 256, y = ix2 g (0 : Fin 1) := ⟨y 0, by
    funext a
    match a with
    | ⟨0, _⟩ => rfl
    | ⟨1, _⟩ => exact Subsingleton.elim (α := Fin 1) _ _⟩
  refine (Block.block_apply _ _ _ _ _ _ _ _ g).trans ?_
  have hg : ((View.whole main_v4).slice (win0_8.rect t)).emb (ix2 g (0 : Fin 1)) 0 = g := Fin.ext (by blk_simp [e8])
  unfold value
  simp only [read0, read1, read2, read3, read4, read5, read6, read7]
  exact congrArg (fun g => readout _ _ _ _ _ _ _ _ g _) hg.symm

end Cert.KernelIdeal.Output

end
-- ==== Proof.Segment.lean ====
/-
  A sum by segments, as the reference writes it: each row of the updates is added into the row of the result that its
  number names. Read at one entry it is the sum over the rows whose number, read signed, is that entry's row.
-/
module

public import proofs.«01_k».proof.Proof.Gen.ReferenceIdeal.Run
public import proofs.«01_k».proof.Proof.Readout
public import Idealize.ShloMosaic.Lib.Pointwise
public import Idealize.ShloMosaic.Lib.Routing.OpsPair

@[expose] public section

set_option maxRecDepth 16384

noncomputable section

namespace Cert.ReferenceIdeal.Segment

open Cert.ReferenceIdeal Cert.ReferenceIdeal.Gen Cert.Readout Idealize.ShloMosaic

/-- Update `n` of the vector's sum lands at entry `g` exactly when its number is `g`. -/
theorem lands_vector (i : IVec S10000x1 32) (n : Fin 10000) (g : Fin 256) :
    scatter_S256_S10000x1_S10000_n_0_0_1.resultIdx? (ix1 n) i = some (ix1 g) ↔ (i (ix2 n 0)).toInt = (g.val : Int) := by
  rw [Routing.resultIdx?_eq_some]
  have e : scatter_S256_S10000x1_S10000_n_0_0_1.siIdx (ix1 n) ⟨0, by decide⟩ = ix2 n 0 := by
    funext a
    match a with
    | ⟨0, _⟩ => rfl
    | ⟨1, _⟩ => rfl
  have h0 : scatter_S256_S10000x1_S10000_n_0_0_1.start (ix1 n) i 0 = (i (ix2 n 0)).toInt := congrArg (fun j => (i j).toInt) e
  have h1 : scatter_S256_S10000x1_S10000_n_0_0_1.window (ix1 n) 0 = 0 := rfl
  constructor
  · intro h
    have := h 0
    rw [h0, h1] at this
    simpa using this
  · intro h a
    match a with
    | ⟨0, _⟩ =>
      show scatter_S256_S10000x1_S10000_n_0_0_1.start (ix1 n) i 0 + (scatter_S256_S10000x1_S10000_n_0_0_1.window (ix1 n) 0 : Int) = (g.val : Int)
      rw [h0, h1, h]; simp

/-- Update `(n, k)` of the matrix's sum lands at entry `(g, c)` exactly when row `n`'s number is `g` and `k` is `c`. -/
theorem lands_matrix (i : IVec S10000x1 32) (n : Fin 10000) (k : Fin 128) (g : Fin 256) (c : Fin 128) :
    scatter_S256x128_S10000x1_S10000x128_1_0_0_1.resultIdx? (ix2 n k) i = some (ix2 g c) ↔ (i (ix2 n 0)).toInt = (g.val : Int) ∧ k = c := by
  rw [Routing.resultIdx?_eq_some]
  have e : scatter_S256x128_S10000x1_S10000x128_1_0_0_1.siIdx (ix2 n k) ⟨0, by decide⟩ = ix2 n 0 := by
    funext a
    match a with
    | ⟨0, _⟩ => rfl
    | ⟨1, _⟩ => rfl
  have h0 : scatter_S256x128_S10000x1_S10000x128_1_0_0_1.start (ix2 n k) i 0 = (i (ix2 n 0)).toInt := congrArg (fun j => (i j).toInt) e
  have h1 : scatter_S256x128_S10000x1_S10000x128_1_0_0_1.window (ix2 n k) 0 = 0 := rfl
  have h2 : scatter_S256x128_S10000x1_S10000x128_1_0_0_1.start (ix2 n k) i 1 = 0 := rfl
  have h3 : scatter_S256x128_S10000x1_S10000x128_1_0_0_1.window (ix2 n k) 1 = k.val := rfl
  constructor
  · intro h
    have a0 := h 0
    have a1 := h 1
    rw [h0, h1] at a0
    rw [h2, h3] at a1
    change _ = (c.val : Int) at a1
    exact ⟨by simpa using a0, Fin.ext (by omega)⟩
  · rintro ⟨h, rfl⟩ a
    match a with
    | ⟨0, _⟩ =>
      show scatter_S256x128_S10000x1_S10000x128_1_0_0_1.start (ix2 n k) i 0
        + (scatter_S256x128_S10000x1_S10000x128_1_0_0_1.window (ix2 n k) 0 : Int) = (g.val : Int)
      rw [h0, h1, h]; simp
    | ⟨1, _⟩ =>
      show scatter_S256x128_S10000x1_S10000x128_1_0_0_1.start (ix2 n k) i 1
        + (scatter_S256x128_S10000x1_S10000x128_1_0_0_1.window (ix2 n k) 1 : Int) = (k.val : Int)
      rw [h2, h3]; simp

/-- The sum of ones by graph, from zeros: at a graph, the number of its rows. -/
theorem count_apply (x : FVec Ideal S256 .f32) (i : IVec S10000x1 32) (u : FVec Ideal S10000 .f32) (hx : ∀ g, x g = 0) (hu : ∀ n, u n = 1)
    (g : Fin 256) : Host.scatterAdd scatter_S256_S10000x1_S10000_n_0_0_1 x i u (ix1 g) = count (fun n => i (ix2 n 0)) g := by
  show x (ix1 g) + ∑ j ∈ Finset.univ.filter (fun j => scatter_S256_S10000x1_S10000_n_0_0_1.resultIdx? j i = some (ix1 g)), u j = _
  rw [hx, zero_add, Finset.sum_filter, sum_idx1]
  exact Finset.sum_congr rfl fun n _ => by rw [hu]; exact if_congr (lands_vector i n g) rfl rfl

/-- The sum of the features' rows by graph, from zeros: at a graph and a column, that column summed over the graph's rows. -/
theorem total_apply (x : FVec Ideal S256x128 .f32) (i : IVec S10000x1 32) (u : FVec Ideal S10000x128 .f32) (hx : ∀ p, x p = 0)
    (g : Fin 256) (c : Fin 128) :
    Host.scatterAdd scatter_S256x128_S10000x1_S10000x128_1_0_0_1 x i u (ix2 g c) = total (fun n => i (ix2 n 0)) (fun n k => u (ix2 n k)) g c := by
  show x (ix2 g c) + ∑ j ∈ Finset.univ.filter (fun j => scatter_S256x128_S10000x1_S10000x128_1_0_0_1.resultIdx? j i = some (ix2 g c)), u j = _
  rw [hx, zero_add, Finset.sum_filter, sum_idx2]
  refine Finset.sum_congr rfl fun n _ => ?_
  have e : ∀ k : Fin 128, (if scatter_S256x128_S10000x1_S10000x128_1_0_0_1.resultIdx? (ix2 n k) i = some (ix2 g c) then u (ix2 n k) else 0)
      = if k = c then (if (i (ix2 n 0)).toInt = (g.val : Int) then u (ix2 n k) else 0) else 0 := fun k => by
    simp only [lands_matrix, and_comm (b := k = c), ite_and]
  rw [Finset.sum_congr rfl fun k _ => e k, Finset.sum_ite_eq' Finset.univ c, if_pos (Finset.mem_univ c)]

end Cert.ReferenceIdeal.Segment

end
-- ==== Proof.Reference.lean ====
/-
  What the reference computes, entry by entry: the readout of its arguments.
-/
module

public import proofs.«01_k».proof.Proof.Segment

@[expose] public section

set_option maxRecDepth 16384

noncomputable section

namespace Cert.ReferenceIdeal.Reference

open Cert.ReferenceIdeal Cert.ReferenceIdeal.Gen Cert.Readout Idealize.ShloMosaic

variable (h : FVec Ideal S10000x128 .f32) (b : IVec S10000 32) (w1 : FVec Ideal S128x128 .f32) (d1 : FVec Ideal S128 .f32)
  (w2 : FVec Ideal S128x128 .f32) (d2 : FVec Ideal S128 .f32) (w3 : FVec Ideal S128x1 .f32) (d3 : FVec Ideal S1 .f32)

/-- The number of rows of each graph, as the reference counts them. -/
abbrev counts : FVec Ideal S256 .f32 :=
  Host.scatterAdd scatter_S256_S10000x1_S10000_n_0_0_1 (broadcastInDim S256 ![] bcast_S_S256 (constant S_ .f32 0x00000000#32))
    (broadcastInDim S10000x1 ![0] bcast_S10000_S10000x1_0 b) (broadcastInDim S10000 ![] bcast_S_S10000 (constant S_ .f32 0x3F800000#32))

/-- The sums of each graph's rows, as the reference forms them. -/
abbrev totals : FVec Ideal S256x128 .f32 :=
  Host.scatterAdd scatter_S256x128_S10000x1_S10000x128_1_0_0_1 (broadcastInDim S256x128 ![] bcast_S_S256x128 (constant S_ .f32 0x00000000#32))
    (broadcastInDim S10000x1 ![0] bcast_S10000_S10000x1_0 b) h

/-- The reference's result from counts `n` and sums `t`: the mean, three layers, and the choice of 0 for a graph without rows. -/
abbrev result (n : FVec Ideal S256 .f32) (t : FVec Ideal S256x128 .f32) : FVec Ideal S256x1 .f32 :=
  select (broadcastInDim S256x1 ![0] bcast_S256_S256x1_0 (cmpf .ogt n (broadcastInDim S256 ![] bcast_S_S256 (constant S_ .f32 0x00000000#32))))
    (addf (Host.dotGeneral dot_S256x128_S128x1_S256x1_1_0_0_1_n_n none
      (maximumf (addf (Host.dotGeneral dot_S256x128_S128x128_S256x128_1_0_0_1_n_n none
        (maximumf (addf (Host.dotGeneral dot_S256x128_S128x128_S256x128_1_0_0_1_n_n none
          (Host.divf t (broadcastInDim S256x128 ![0, 1] bcast_S256x1_S256x128_0_1 (broadcastInDim S256x1 ![0] bcast_S256_S256x1_0
            (maximumf n (broadcastInDim S256 ![] bcast_S_S256 (constant S_ .f32 0x3F800000#32)))))) w1)
          (broadcastInDim S256x128 ![0, 1] bcast_S1x128_S256x128_0_1 (broadcastInDim S1x128 ![1] bcast_S128_S1x128_1 d1)))
          (broadcastInDim S256x128 ![] bcast_S_S256x128 (constant S_ .f32 0x00000000#32))) w2)
        (broadcastInDim S256x128 ![0, 1] bcast_S1x128_S256x128_0_1 (broadcastInDim S1x128 ![1] bcast_S128_S1x128_1 d2)))
        (broadcastInDim S256x128 ![] bcast_S_S256x128 (constant S_ .f32 0x00000000#32))) w3)
      (broadcastInDim S256x1 ![0, 1] bcast_S1x1_S256x1_0_1 (broadcastInDim S1x1 ![1] bcast_S1_S1x1_1 d3)))
    (broadcastInDim S256x1 ![] bcast_S_S256x1 (constant S_ .f32 0x00000000#32))

/-- At a graph the reference counts the graph's rows. -/
theorem counts_apply (g : Fin 256) : counts b (ix1 g) = count (fun n => b (ix1 n)) g := by
  refine (Segment.count_apply _ _ _ (fun g => ?_) (fun n => ?_) g).trans ?_
  · pointwise
  · pointwise
  · exact congrArg (fun f => count f g) (funext fun n => by pointwise)

/-- At a graph and a column the reference sums the column over the graph's rows. -/
theorem totals_apply (g : Fin 256) (c : Fin 128) : totals h b (ix2 g c) = total (fun n => b (ix1 n)) (fun n k => h (ix2 n k)) g c := by
  refine (Segment.total_apply _ _ _ (fun p => ?_) g c).trans ?_
  · pointwise
  · exact congrArg (fun f => total f (fun n k => h (ix2 n k)) g c) (funext fun n => by pointwise)

/-- The reference's result at a graph: the readout of its arguments. -/
theorem result_apply (g : Fin 256) :
    result w1 d1 w2 d2 w3 d3 (counts b) (totals h b) (ix2 g 0)
      = readout (fun n => b (ix1 n)) (fun n c => h (ix2 n c)) (fun k c => w1 (ix2 k c)) (fun c => d1 (ix1 c))
          (fun k c => w2 (ix2 k c)) (fun c => d2 (ix1 c)) (fun k c => w3 (ix2 k c)) (fun c => d3 (ix1 c)) g (0 : Fin 1) := by
  generalize hn : counts b = n
  generalize ht : totals h b = t
  pointwise
  subst hn ht
  simp only [totals_apply, counts_apply]
  rfl

end Cert.ReferenceIdeal.Reference

end
-- ==== Proof.Equation.lean ====
/-
  The equation between the two programs: from the same arguments, the array the kernel leaves is the reference's result.
-/
module

public import proofs.«01_k».proof.Proof.Output
public import proofs.«01_k».proof.Proof.Reference

@[expose] public section

set_option maxRecDepth 16384

noncomputable section

namespace Cert.Equation

open Idealize.ShloMosaic Idealize.SL.Sem Cert.KernelIdeal Cert.KernelIdeal.Gen

/-- The array the kernel leaves is the reference's composed term at the kernel's arguments. -/
theorem output_eq_reference (m : (ℓ : Loc nD τ sig) → Buf (Elt Ideal) ℓ) (c : Dev nD) :
    (dats m 0 c).arrAt 8 cfg0.N
      = Cert.ReferenceIdeal.Reference.result (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (Cert.ReferenceIdeal.Reference.counts (m ((c.tc : Thread nD τ).loc main_arg2)))
          (Cert.ReferenceIdeal.Reference.totals (m ((c.tc : Thread nD τ).loc main_arg0)) (m ((c.tc : Thread nD τ).loc main_arg2))) := by
  refine (Cert.KernelIdeal.Output.final m c).trans (funext fun j => ?_)
  obtain ⟨g, rfl⟩ : ∃ g : Fin 256, j = ix2 g (0 : Fin 1) := ⟨j 0, by
    funext a
    match a with
    | ⟨0, _⟩ => rfl
    | ⟨1, _⟩ => exact Subsingleton.elim (α := Fin 1) _ _⟩
  exact (Cert.ReferenceIdeal.Reference.result_apply _ _ _ _ _ _ _ _ g).symm

end Cert.Equation

end
-- ==== Proof.lean ====
/-
  The proof of `Cert.Claim`: the kernel as printed, its ideal form and the reference each run, leave their arguments as they
  were and return every semaphore counter to zero; and on the extended reals the kernel's result is the reference's.

  The kernel's array is read in `Proof/Block.lean` (one block) and `Proof/Output.lean` (the array), the reference's in
  `Proof/Segment.lean` (its sums by graph) and `Proof/Reference.lean`, both as the readout of `Proof/Readout.lean`;
  `Proof/Equation.lean` puts the two together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- The reference has no semaphore: it runs, its arguments end unchanged and every semaphore counter ends at zero. -/
theorem frame_reference : quiescent_ReferenceIdeal := by
  intro m g _
  exact (θ_run _ _ _).mono (fun r h => ⟨fun c => (h c).2, sem_eq_zero_of_no_sems (sig := Cert.ReferenceIdeal.sig) (by decide) r.2⟩)
    (Cert.ReferenceIdeal.Value.run m g)

/-- From memories that agree on the arguments the kernel and the reference end with the same result on the extended reals. -/
theorem equal_results : algebraic_KernelIdeal_ReferenceIdeal := by
  pair_intro
  · run_from Cert.KernelIdeal.Value.run_blocks m g
  · run_from Cert.ReferenceIdeal.Value.run m' g'
    exact (Cert.Equation.output_eq_reference m c).symm

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference, trivial, equal_results⟩

end Cert.Proof

end
